-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S512x64 : Shape := ⟨2, ![512, 64]⟩
abbrev S512x512x64 : Shape := ⟨3, ![512, 512, 64]⟩
abbrev S512x512x2 : Shape := ⟨3, ![512, 512, 2]⟩
abbrev S512x512 : Shape := ⟨2, ![512, 512]⟩
abbrev S1x192 : Shape := ⟨2, ![1, 192]⟩
abbrev S1 : Shape := ⟨1, ![1]⟩
abbrev S_ : Shape := ⟨0, ![]⟩

class Facts : Prop where
  reducesTo_S512x64_S_d0_1 : S512x64.ReducesTo [0, 1] S_
  h_S_ : 0 < S_.numel
  reducesTo_S512x512x64_S_d0_1_2 : S512x512x64.ReducesTo [0, 1, 2] S_
  reducesTo_S1x192_S_d0_1 : S1x192.ReducesTo [0, 1] S_

variable [Facts]

def fn {F : FTy → Type} [FloatOps F] (main_arg0 : FVec F S512x64 .f32) (main_arg1 : FVec F S512x512x64 .f32) (main_arg2 : FVec F S512x512x2 .f32) (main_arg3 : IVec S512x512 32) (main_arg4 : FVec F S1x192 .f32) (main_arg5 : FVec F S1 .f32) : IVec S_ 1 :=
  let main_v0 : FVec F S512x64 .f32 := Host.absf main_arg0
  let main_cst : FVec F S_ .f32 := constant S_ .f32 0xFF800000#32
  let main_v1 : FVec F S_ .f32 := (fun x v => Host.reduce FloatOps.maximumf x v reducesTo_S512x64_S_d0_1 h_S_) main_v0 main_cst
  let main_cst_0 : FVec F S_ .f32 := constant S_ .f32 0x7F800000#32
  let main_v2 : IVec S_ 1 := cmpf .olt main_v1 main_cst_0
  let main_v3 : FVec F S512x512x64 .f32 := Host.absf main_arg1
  let main_cst_1 : FVec F S_ .f32 := constant S_ .f32 0xFF800000#32
  let main_v4 : FVec F S_ .f32 := (fun x v => Host.reduce FloatOps.maximumf x v reducesTo_S512x512x64_S_d0_1_2 h_S_) main_v3 main_cst_1
  let main_cst_2 : FVec F S_ .f32 := constant S_ .f32 0x7F800000#32
  let main_v5 : IVec S_ 1 := cmpf .olt main_v4 main_cst_2
  let main_v6 : IVec S_ 1 := andi main_v2 main_v5
  let main_v7 : FVec F S1x192 .f32 := Host.absf main_arg4
  let main_cst_3 : FVec F S_ .f32 := constant S_ .f32 0xFF800000#32
  let main_v8 : FVec F S_ .f32 := (fun x v => Host.reduce FloatOps.maximumf x v reducesTo_S1x192_S_d0_1 h_S_) main_v7 main_cst_3
  let main_cst_4 : FVec F S_ .f32 := constant S_ .f32 0x7F800000#32
  let main_v9 : IVec S_ 1 := cmpf .olt main_v8 main_cst_4
  let main_v10 : IVec S_ 1 := andi main_v6 main_v9
  main_v10
-- ==== Kernel.lean ====
abbrev S512x64 : Shape := ⟨2, ![512, 64]⟩
abbrev S512x512x64 : Shape := ⟨3, ![512, 512, 64]⟩
abbrev S512x512x2 : Shape := ⟨3, ![512, 512, 2]⟩
abbrev S512x512 : Shape := ⟨2, ![512, 512]⟩
abbrev S1x192 : Shape := ⟨2, ![1, 192]⟩
abbrev S1 : Shape := ⟨1, ![1]⟩
abbrev S1x64 : Shape := ⟨2, ![1, 64]⟩
abbrev S64x1 : Shape := ⟨2, ![64, 1]⟩
abbrev S64x32 : Shape := ⟨2, ![64, 32]⟩
abbrev S512x16x32 : Shape := ⟨3, ![512, 16, 32]⟩
abbrev S16x512x32 : Shape := ⟨3, ![16, 512, 32]⟩
abbrev S1x1 : Shape := ⟨2, ![1, 1]⟩
abbrev S32x512x64 : Shape := ⟨3, ![32, 512, 64]⟩
abbrev S1x512x32 : Shape := ⟨3, ![1, 512, 32]⟩
abbrev S32x64 : Shape := ⟨2, ![32, 64]⟩
abbrev S512x1 : Shape := ⟨2, ![512, 1]⟩
abbrev S1x32 : Shape := ⟨2, ![1, 32]⟩
abbrev S512x32 : Shape := ⟨2, ![512, 32]⟩
abbrev S8x512x64 : Shape := ⟨3, ![8, 512, 64]⟩
abbrev S4096x64 : Shape := ⟨2, ![4096, 64]⟩
abbrev S4096x32 : Shape := ⟨2, ![4096, 32]⟩
abbrev S32 : Shape := ⟨1, ![32]⟩

abbrev nBuf : Space → Nat
  | .hbm => 18
  | .vmem => 11
  | .smem => 0
  | _ => 0

abbrev bufTy : (tb : Table) → Fin (tcTables nBuf tb) → BufTy
  | .hbm, ⟨0, _⟩ => ⟨S512x64, .f32⟩
  | .hbm, ⟨1, _⟩ => ⟨S512x512x64, .f32⟩
  | .hbm, ⟨2, _⟩ => ⟨S512x512x2, .f32⟩
  | .hbm, ⟨3, _⟩ => ⟨S512x512, .i32⟩
  | .hbm, ⟨4, _⟩ => ⟨S1x192, .f32⟩
  | .hbm, ⟨5, _⟩ => ⟨S1, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S64x1, .f32⟩
  | .hbm, ⟨10, _⟩ => ⟨S64x32, .f32⟩
  | .hbm, ⟨11, _⟩ => ⟨S64x1, .f32⟩
  | .hbm, ⟨12, _⟩ => ⟨S512x512, .i32⟩
  | .hbm, ⟨13, _⟩ => ⟨S512x16x32, .i32⟩
  | .hbm, ⟨14, _⟩ => ⟨S16x512x32, .i32⟩
  | .hbm, ⟨15, _⟩ => ⟨S1x1, .f32⟩
  | .hbm, ⟨16, _⟩ => ⟨S512x512x64, .bf16⟩
  | .hbm, ⟨17, _⟩ => ⟨S512x64, .f32⟩
  | .local _ .vmem, ⟨0, _⟩ => ⟨S512x64, .f32⟩
  | .local _ .vmem, ⟨1, _⟩ => ⟨S32x512x64, .bf16⟩
  | .local _ .vmem, ⟨2, _⟩ => ⟨S32x512x64, .bf16⟩
  | .local _ .vmem, ⟨3, _⟩ => ⟨S1x512x32, .i32⟩
  | .local _ .vmem, ⟨4, _⟩ => ⟨S1x512x32, .i32⟩
  | .local _ .vmem, ⟨5, _⟩ => ⟨S64x32, .f32⟩
  | .local _ .vmem, ⟨6, _⟩ => ⟨S1x64, .f32⟩
  | .local _ .vmem, ⟨7, _⟩ => ⟨S64x1, .f32⟩
  | .local _ .vmem, ⟨8, _⟩ => ⟨S1x1, .f32⟩
  | .local _ .vmem, ⟨9, _⟩ => ⟨S32x64, .f32⟩
  | .local _ .vmem, ⟨10, _⟩ => ⟨S32x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c32_i32 : BitVec 32 := 32#32
  let v6 : BitVec 32 := Scalar.muli arg0 c32_i32
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S512x64 : Shape := ⟨2, ![512, 64]⟩
abbrev S512x512x64 : Shape := ⟨3, ![512, 512, 64]⟩
abbrev S512x512x2 : Shape := ⟨3, ![512, 512, 2]⟩
abbrev S512x512 : Shape := ⟨2, ![512, 512]⟩
abbrev S1x192 : Shape := ⟨2, ![1, 192]⟩
abbrev S1 : Shape := ⟨1, ![1]⟩
abbrev S1x512x1x64 : Shape := ⟨4, ![1, 512, 1, 64]⟩
abbrev S512x512x1x64 : Shape := ⟨4, ![512, 512, 1, 64]⟩
abbrev S262144x64 : Shape := ⟨2, ![262144, 64]⟩
abbrev S262144 : Shape := ⟨1, ![262144]⟩
abbrev S_ : Shape := ⟨0, ![]⟩
abbrev S262144x192 : Shape := ⟨2, ![262144, 192]⟩
abbrev S192x1 : Shape := ⟨2, ![192, 1]⟩
abbrev S262144x1 : Shape := ⟨2, ![262144, 1]⟩
abbrev S1x1 : Shape := ⟨2, ![1, 1]⟩
abbrev S512 : Shape := ⟨1, ![512]⟩
abbrev S512x1 : Shape := ⟨2, ![512, 1]⟩

abbrev nBuf : Space → Nat
  | .hbm => 61
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x512x64, .f32⟩
  | .hbm, ⟨2, _⟩ => ⟨S512x512x2, .f32⟩
  | .hbm, ⟨3, _⟩ => ⟨S512x512, .i32⟩
  | .hbm, ⟨4, _⟩ => ⟨S1x192, .f32⟩
  | .hbm, ⟨5, _⟩ => ⟨S1, .f32⟩
  | .hbm, ⟨6, _⟩ => ⟨S1x512x1x64, .f32⟩
  | .hbm, ⟨7, _⟩ => ⟨S512x512x1x64, .f32⟩
  | .hbm, ⟨8, _⟩ => ⟨S262144x64, .f32⟩
  | .hbm, ⟨9, _⟩ => ⟨S512x512x64, .f32⟩
  | .hbm, ⟨10, _⟩ => ⟨S262144x64, .f32⟩
  | .hbm, ⟨11, _⟩ => ⟨S262144x64, .f32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S262144x192, .f32⟩
  | .hbm, ⟨17, _⟩ => ⟨S192x1, .f32⟩
  | .hbm, ⟨18, _⟩ => ⟨S262144x1, .f32⟩
  | .hbm, ⟨19, _⟩ => ⟨S1x1, .f32⟩
  | .hbm, ⟨20, _⟩ => ⟨S262144x1, .f32⟩
  | .hbm, ⟨21, _⟩ => ⟨S262144x1, .f32⟩
  | .hbm, ⟨22, _⟩ => ⟨S262144, .f32⟩
  | .hbm, ⟨23, _⟩ => ⟨S_, .f32⟩
  | .hbm, ⟨24, _⟩ => ⟨S_, .f32⟩
  | .hbm, ⟨25, _⟩ => ⟨S262144, .f32⟩
  | .hbm, ⟨26, _⟩ => ⟨S262144, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .i1⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512x1, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512, .f32⟩
  | .hbm, ⟨45, _⟩ => ⟨S512x1, .f32⟩
  | .hbm, ⟨46, _⟩ => ⟨S512x512, .f32⟩
  | .hbm, ⟨47, _⟩ => ⟨S512x512, .f32⟩
  | .hbm, ⟨48, _⟩ => ⟨S262144, .f32⟩
  | .hbm, ⟨49, _⟩ => ⟨S262144x1, .i1⟩
  | .hbm, ⟨50, _⟩ => ⟨S262144x1, .f32⟩
  | .hbm, ⟨51, _⟩ => ⟨S262144x64, .f32⟩
  | .hbm, ⟨52, _⟩ => ⟨S262144x64, .f32⟩
  | .hbm, ⟨53, _⟩ => ⟨S_, .f32⟩
  | .hbm, ⟨54, _⟩ => ⟨S_, .f32⟩
  | .hbm, ⟨55, _⟩ => ⟨S262144x64, .i1⟩
  | .hbm, ⟨56, _⟩ => ⟨S262144x64, .f32⟩
  | .hbm, ⟨57, _⟩ => ⟨S262144x64, .f32⟩
  | .hbm, ⟨58, _⟩ => ⟨S512x512x64, .f32⟩
  | .hbm, ⟨59, _⟩ => ⟨S_, .f32⟩
  | .hbm, ⟨60, _⟩ => ⟨S512x64, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_call1_v0 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Softmax.lean ====
/- Softmax over the extended reals: the ratio of one shifted exponential to the sum of a row does not depend on which
   upper bound of the row is subtracted before the exponential is taken. -/
module

public import Idealize.ShloMosaic.PureOps.Ideal.Laws

@[expose] public section

noncomputable section

namespace Cert.Att

open Idealize.ShloMosaic

/-- The exponential of a value shifted down by a real bound is the cast of a nonnegative real, and shifting by another
    real bound only multiplies that real by a factor which is the same for every value below both. -/
theorem exp_shift (x : EReal) (r R : ℝ) (hx : x ≤ (r : EReal)) :
    ∃ e : ℝ, 0 ≤ e ∧ Ideal.exp (x - (R : EReal)) = (e : EReal)
      ∧ Ideal.exp (x - (r : EReal)) = ((Real.exp (R - r) * e : ℝ) : EReal) := by
  induction x with
  | bot => exact ⟨0, le_rfl, by simp, by simp⟩
  | top => exact absurd (top_le_iff.1 hx) (EReal.coe_ne_top r)
  | coe a =>
    refine ⟨Real.exp (a - R), (Real.exp_pos _).le, ?_, ?_⟩
    · rw [← EReal.coe_sub, Ideal.exp_coe]
    · rw [← EReal.coe_sub, Ideal.exp_coe, ← Real.exp_add]
      congr 2
      ring

/-- A sum of casts of reals is the cast of the sum. -/
theorem coe_sum {ι : Type} (s : Finset ι) (f : ι → ℝ) : (∑ k ∈ s, (f k : EReal)) = ((∑ k ∈ s, f k : ℝ) : EReal) := by
  classical
  induction s using Finset.induction_on with
  | empty => simp
  | insert a t ha ih => rw [Finset.sum_insert ha, Finset.sum_insert ha, ih, EReal.coe_add]

/-- A quotient of nonnegative reals keeps its value when both parts are multiplied by one positive real, also in the
    case where the divisor, and with it the dividend, is zero. -/
theorem div_scale (c a s : ℝ) (hc : 0 < c) (hz : s = 0 → a = 0) :
    Ideal.div ((c * a : ℝ) : EReal) ((c * s : ℝ) : EReal) = Ideal.div (a : EReal) (s : EReal) := by
  by_cases hs : s = 0
  · rw [hz hs, hs, mul_zero]
  · rw [Ideal.div_coe (mul_ne_zero hc.ne' hs), Ideal.div_coe hs, ← EReal.coe_mul, ← EReal.coe_mul]
    congr 1
    field_simp

/-- THE SHIFT LEMMA. `m` bounds the row `x`, `M` bounds `m`, and `M` is infinite only where `m` is: then the softmax
    ratios of the row taken with the shift `M` are those taken with the shift `m`. -/
theorem ratio_eq {ι : Type} [Fintype ι] (x : ι → EReal) (m M : EReal) (hx : ∀ k, x k ≤ m) (hm : m ≤ M)
    (htop : M = ⊤ → m = ⊤) (j : ι) :
    Ideal.div (Ideal.exp (x j - M)) (∑ k, Ideal.exp (x k - M))
      = Ideal.div (Ideal.exp (x j - m)) (∑ k, Ideal.exp (x k - m)) := by
  induction m with
  | top => rw [top_le_iff.1 hm]
  | bot =>
    have hb : ∀ k, x k = ⊥ := fun k => le_bot_iff.1 (hx k)
    simp [hb]
  | coe r =>
    induction M with
    | top => exact absurd (htop rfl) (EReal.coe_ne_top r)
    | bot => exact absurd (le_bot_iff.1 hm) (EReal.coe_ne_bot r)
    | coe R =>
      choose e he0 heR her using fun k => exp_shift (x k) r R (hx k)
      simp only [heR, her, coe_sum, ← Finset.mul_sum]
      refine (div_scale _ _ _ (Real.exp_pos _) fun hs => ?_).symm
      exact (Finset.sum_eq_zero_iff_of_nonneg fun k _ => he0 k).1 hs j (Finset.mem_univ j)

/-- The running maximum from the bottom element up bounds every member. -/
theorem le_fold_max {ι : Type} (s : Finset ι) (f : ι → EReal) (b : EReal) (k : ι) (hk : k ∈ s) :
    f k ≤ s.fold max b f :=
  (Finset.le_fold_max (f k)).2 (.inr ⟨k, hk, le_rfl⟩)

/-- A running maximum which started at the bottom element is infinite only if a member is. -/
theorem exists_top_of_fold_max {ι : Type} (s : Finset ι) (f : ι → EReal) (h : s.fold max ⊥ f = ⊤) :
    ∃ k ∈ s, f k = ⊤ := by
  by_contra hn
  have hlt : s.fold max ⊥ f < ⊤ :=
    (Finset.fold_max_lt _).2 ⟨bot_lt_top, fun k hk => lt_top_iff_ne_top.2 fun e => hn ⟨k, hk, e⟩⟩
  exact hlt.ne h

end Cert.Att

end
-- ==== Proof.Spec.lean ====
/- The attention step as plain formulas over extended reals, and the equation of the two ways to shift its softmax:
   by the maximum over a block of 32 rows, and by the maximum of the row itself. -/
module

public import proofs.«01_k».proof.Proof.Softmax
public import Idealize.ShloMosaic.PureOps.Vector

@[expose] public section

noncomputable section

namespace Cert.Att

open Idealize.ShloMosaic

/-! ## Three constants -/

/-- The pattern of minus infinity is the bottom element. -/
theorem ofBits_bot : Ideal.ofBits .f32 4286578688#32 = ⊥ := by simp [Ideal.ofBits, Ideal.ieee]

/-- The pattern of plus infinity is the top element. -/
theorem ofBits_top : Ideal.ofBits .f32 2139095040#32 = ⊤ := by simp [Ideal.ofBits, Ideal.ieee]

/-- The small negative number that replaces a zero score is a real. -/
theorem ofBits_small_ne_top : Ideal.ofBits .f32 3045472189#32 ≠ ⊤ := by
  simp only [Ideal.ofBits, Ideal.ieee]
  norm_num
  exact EReal.coe_ne_top _

/-! ## The formulas -/

/-- A score from its mask bit and its logit: zero where masked out, then the small negative number in place of a zero. -/
def fill (c : BitVec 1) (t : EReal) : EReal :=
  if Scalar.select c t 0 = 0 then Ideal.ofBits .f32 3045472189#32 else Scalar.select c t 0

/-- An unmasked infinite logit is an infinite score. -/
theorem fill_one_top : fill 1#1 ⊤ = ⊤ := by simp [fill, Scalar.select]

/-- A score is infinite only where the logit is. -/
theorem eq_top_of_fill (c : BitVec 1) (t : EReal) (h : fill c t = ⊤) : t = ⊤ := by
  unfold fill at h
  split_ifs at h with h0
  · exact absurd h ofBits_small_ne_top
  · unfold Scalar.select at h
    split_ifs at h with hc
    · exact h
    · exact absurd h EReal.zero_ne_top

/-- Whether pair `(i, j)` takes part: its entry of the neighbour table is positive. -/
def mask (N : Fin 512 → Fin 512 → BitVec 32) (i j : Fin 512) : BitVec 1 := IntOp.cmpi .sgt (N i j) 0#32

/-- The part of a logit that comes from the states: the relation of the pair, the row's state and the column's state,
    each against its third of the weights. -/
def linear (H : Fin 512 → Fin 64 → EReal) (R : Fin 512 → Fin 512 → Fin 64 → EReal) (w : Fin 192 → EReal)
    (i j : Fin 512) : EReal :=
  (∑ k : Fin 64, R i j k * w ⟨k, by omega⟩)
    + ((∑ k : Fin 64, H i k * w ⟨64 + k, by omega⟩) + ∑ k : Fin 64, H j k * w ⟨128 + k, by omega⟩)

/-- The score of pair `(i, j)`. -/
def score (H : Fin 512 → Fin 64 → EReal) (R : Fin 512 → Fin 512 → Fin 64 → EReal) (N : Fin 512 → Fin 512 → BitVec 32)
    (w : Fin 192 → EReal) (b : EReal) (i j : Fin 512) : EReal :=
  fill (mask N i j) (linear H R w i j + b)

/-- The greatest score of a row. -/
def rowMax (S : Fin 512 → Fin 512 → EReal) (i : Fin 512) : EReal :=
  Finset.univ.fold max ⊥ fun j => S i j

/-- Row `q` of the block of 32 rows that holds row `i`. -/
def blockRow (i : Fin 512) (q : Fin 32) : Fin 512 := ⟨i / 32 * 32 + q, by omega⟩

/-- The greatest score of the 32 rows of the block that holds row `i`. -/
def blockMax (S : Fin 512 → Fin 512 → EReal) (i : Fin 512) : EReal :=
  Finset.univ.fold max ⊥ fun q : Fin 32 => Finset.univ.fold max ⊥ fun j : Fin 512 => S (blockRow i q) j

/-- Row `i` of the result at feature `d`: the states of the unmasked columns, weighted by the softmax of the row's scores
    taken with the shift `s`. -/
def attend (S : Fin 512 → Fin 512 → EReal) (c : Fin 512 → Fin 512 → BitVec 1) (H : Fin 512 → Fin 64 → EReal)
    (s : EReal) (i : Fin 512) (d : Fin 64) : EReal :=
  ∑ j : Fin 512, Scalar.select (c i j)
    (Ideal.div (Ideal.exp (S i j - s)) (∑ k : Fin 512, Ideal.exp (S i k - s)) * H j d) 0

/-! ## Finite states and weights -/

/-- An extended real with a real absolute value. -/
def Fine (x : EReal) : Prop := ∃ r : ℝ, x = (r : EReal)

/-- The product of two finite numbers is finite. -/
theorem Fine.mul {x y : EReal} (hx : Fine x) (hy : Fine y) : Fine (x * y) := by
  obtain ⟨a, rfl⟩ := hx
  obtain ⟨b, rfl⟩ := hy
  exact ⟨a * b, by rw [EReal.coe_mul]⟩

/-- The sum of two finite numbers is finite. -/
theorem Fine.add {x y : EReal} (hx : Fine x) (hy : Fine y) : Fine (x + y) := by
  obtain ⟨a, rfl⟩ := hx
  obtain ⟨b, rfl⟩ := hy
  exact ⟨a + b, by rw [EReal.coe_add]⟩

/-- A finite sum of finite numbers is finite. -/
theorem Fine.sum {ι : Type} [Fintype ι] (f : ι → EReal) (h : ∀ k, Fine (f k)) : Fine (∑ k, f k) := by
  choose r hr using h
  exact ⟨∑ k, r k, by simp only [hr, coe_sum]⟩

/-- With finite states and weights the linear part of a logit is finite. -/
theorem fine_linear (H : Fin 512 → Fin 64 → EReal) (R : Fin 512 → Fin 512 → Fin 64 → EReal) (w : Fin 192 → EReal)
    (hH : ∀ i k, Fine (H i k)) (hR : ∀ i j k, Fine (R i j k)) (hw : ∀ k, Fine (w k)) (i j : Fin 512) :
    Fine (linear H R w i j) :=
  (Fine.sum _ fun k => (hR i j k).mul (hw _)).add
    ((Fine.sum _ fun k => (hH i k).mul (hw _)).add (Fine.sum _ fun k => (hH j k).mul (hw _)))

/-- A finite number plus a bias is infinite exactly where the bias is. -/
theorem fine_add_eq_top {x b : EReal} (hx : Fine x) : x + b = ⊤ ↔ b = ⊤ := by
  obtain ⟨r, rfl⟩ := hx
  induction b with
  | bot => simp
  | top => simp
  | coe a => exact iff_of_false (EReal.coe_add r a ▸ EReal.coe_ne_top _) (EReal.coe_ne_top _)

/-! ## The two shifts -/

/-- THE EQUATION. With finite states and weights, shifting by the maximum over the block of 32 rows gives the result that
    shifting by the row's own maximum gives. The bias and the neighbour table are arbitrary. -/
theorem attend_block_eq_row (H : Fin 512 → Fin 64 → EReal) (R : Fin 512 → Fin 512 → Fin 64 → EReal)
    (N : Fin 512 → Fin 512 → BitVec 32) (w : Fin 192 → EReal) (b : EReal)
    (hH : ∀ i k, Fine (H i k)) (hR : ∀ i j k, Fine (R i j k)) (hw : ∀ k, Fine (w k)) (i : Fin 512) (d : Fin 64) :
    attend (score H R N w b) (mask N) H (blockMax (score H R N w b) i) i d
      = attend (score H R N w b) (mask N) H (rowMax (score H R N w b) i) i d := by
  unfold attend
  refine Finset.sum_congr rfl fun j _ => ?_
  by_cases hj : mask N i j = 1#1
  · have hrow : ∀ k, score H R N w b i k ≤ rowMax (score H R N w b) i := fun k =>
      le_fold_max _ _ _ k (Finset.mem_univ k)
    have hself : blockRow i ⟨i % 32, by omega⟩ = i := Fin.ext (by simp only [blockRow]; omega)
    have hblock : rowMax (score H R N w b) i ≤ blockMax (score H R N w b) i := by
      have h := le_fold_max Finset.univ
        (fun q : Fin 32 => Finset.univ.fold max ⊥ fun j : Fin 512 => score H R N w b (blockRow i q) j) ⊥
        ⟨i % 32, by omega⟩ (Finset.mem_univ _)
      simp only [hself] at h
      exact h
    have htop : blockMax (score H R N w b) i = ⊤ → rowMax (score H R N w b) i = ⊤ := by
      intro h
      obtain ⟨q, -, hq⟩ := exists_top_of_fold_max _ _ h
      obtain ⟨k, -, hk⟩ := exists_top_of_fold_max _ _ hq
      have hb : b = ⊤ := (fine_add_eq_top (fine_linear H R w hH hR hw _ _)).1 (eq_top_of_fill _ _ hk)
      have hij : score H R N w b i j = ⊤ := by
        unfold score
        rw [hj, (fine_add_eq_top (fine_linear H R w hH hR hw i j)).2 hb, fill_one_top]
      exact top_le_iff.1 (hij ▸ hrow j)
    rw [ratio_eq (fun k => score H R N w b i k) _ _ hrow hblock htop j]
  · simp only [Scalar.select, BitVec.ofNat_eq_ofNat, if_neg hj]

end Cert.Att

end
-- ==== Proof.Block.lean ====
/- What one block of the kernel computes: the 512 × 32 scores of its 32 rows (columns across, rows along the lanes), and
   from them the 32 × 64 rows of the result. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Att

open Cert.KernelIdeal Cert.KernelIdeal.Gen Cert.Att Idealize.ShloMosaic Idealize.ShloMosaic.TcCoe Idealize.SL.Sem

/-! ## Eight columns at a time -/

/-- Selecting by lane number: lane `q` keeps the value of the lane it is compared with and gets zero otherwise. -/
theorem select_lane (q : Fin 32) (n : ℕ) (hn : n < 32) (a : EReal) :
    Scalar.select (IntOp.cmpi .eq (BitVec.ofNat 32 (q : ℕ)) (BitVec.ofNat 32 n)) a 0 = if (q : ℕ) = n then a else 0 := by
  have hq := q.isLt
  have hiff : BitVec.ofNat 32 (q : ℕ) = BitVec.ofNat 32 n ↔ (q : ℕ) = n := by
    rw [← BitVec.toNat_inj, BitVec.toNat_ofNat, BitVec.toNat_ofNat]
    omega
  by_cases h : (q : ℕ) = n
  · simp [Scalar.select, IntOp.cmpi, hiff.2 h, h]
  · have h' : ¬ BitVec.ofNat 32 (q : ℕ) = BitVec.ofNat 32 n := fun e => h (hiff.1 e)
    simp [Scalar.select, IntOp.cmpi, beq_eq_false_iff_ne.2 h', h]

/-- The value `P` on the eight lanes from `lo` on, zero on the others. -/
def part (lo : ℕ) (q : Fin 32) (P : EReal) : EReal := if lo ≤ (q : ℕ) ∧ (q : ℕ) < lo + 8 then P else 0

/-- A tile of eight rows of relations, each against the weights: where lane `q` is the tile's row `p`, the products' row
    `p * 512 + j` holds at lane `q` the value `P`; then the eight lane selections, added as a tree, are `P` on the tile's
    lanes and zero on the others. -/
theorem octet (lo : ℕ) (hlo : lo + 8 ≤ 32) (Y : FVec Ideal S4096x32 .f32) (P : EReal) (j : Fin 512) (q : Fin 32)
    (hY : ∀ (p : Fin 8) (r : Fin 4096), (r : ℕ) = p * 512 + j → (q : ℕ) = lo + p → Y (ix2 r q) = P) :
    (Scalar.select (IntOp.cmpi .eq (BitVec.ofNat 32 (q : ℕ)) (BitVec.ofNat 32 lo)) (Y (ix2 ⟨j, by omega⟩ q)) (0 : EReal)
        + Scalar.select (IntOp.cmpi .eq (BitVec.ofNat 32 (q : ℕ)) (BitVec.ofNat 32 (lo + 1))) (Y (ix2 ⟨512 + j, by omega⟩ q)) 0
      + (Scalar.select (IntOp.cmpi .eq (BitVec.ofNat 32 (q : ℕ)) (BitVec.ofNat 32 (lo + 2))) (Y (ix2 ⟨1024 + j, by omega⟩ q)) 0
        + Scalar.select (IntOp.cmpi .eq (BitVec.ofNat 32 (q : ℕ)) (BitVec.ofNat 32 (lo + 3))) (Y (ix2 ⟨1536 + j, by omega⟩ q)) 0)
      + (Scalar.select (IntOp.cmpi .eq (BitVec.ofNat 32 (q : ℕ)) (BitVec.ofNat 32 (lo + 4))) (Y (ix2 ⟨2048 + j, by omega⟩ q)) 0
        + Scalar.select (IntOp.cmpi .eq (BitVec.ofNat 32 (q : ℕ)) (BitVec.ofNat 32 (lo + 5))) (Y (ix2 ⟨2560 + j, by omega⟩ q)) 0
      + (Scalar.select (IntOp.cmpi .eq (BitVec.ofNat 32 (q : ℕ)) (BitVec.ofNat 32 (lo + 6))) (Y (ix2 ⟨3072 + j, by omega⟩ q)) 0
        + Scalar.select (IntOp.cmpi .eq (BitVec.ofNat 32 (q : ℕ)) (BitVec.ofNat 32 (lo + 7))) (Y (ix2 ⟨3584 + j, by omega⟩ q)) 0)))
      = part lo q P := by
  unfold part
  rw [select_lane q lo (by omega), select_lane q (lo + 1) (by omega), select_lane q (lo + 2) (by omega),
    select_lane q (lo + 3) (by omega), select_lane q (lo + 4) (by omega), select_lane q (lo + 5) (by omega),
    select_lane q (lo + 6) (by omega), select_lane q (lo + 7) (by omega)]
  by_cases hin : lo ≤ (q : ℕ) ∧ (q : ℕ) < lo + 8
  · rw [if_pos hin]
    have hc : (q : ℕ) = lo ∨ (q : ℕ) = lo + 1 ∨ (q : ℕ) = lo + 2 ∨ (q : ℕ) = lo + 3 ∨ (q : ℕ) = lo + 4 ∨ (q : ℕ) = lo + 5
        ∨ (q : ℕ) = lo + 6 ∨ (q : ℕ) = lo + 7 := by omega
    rcases hc with h | h | h | h | h | h | h | h
    · rw [← hY 0 ⟨j, by omega⟩ (by simp) (by simpa using h)]; simp [h]
    · rw [← hY 1 ⟨512 + j, by omega⟩ (by simp) (by simpa using h)]; simp [h]
    · rw [← hY 2 ⟨1024 + j, by omega⟩ (by simp) (by simpa using h)]; simp [h]
    · rw [← hY 3 ⟨1536 + j, by omega⟩ (by simp) (by simpa using h)]; simp [h]
    · rw [← hY 4 ⟨2048 + j, by omega⟩ (by simp) (by simpa using h)]; simp [h]
    · rw [← hY 5 ⟨2560 + j, by omega⟩ (by simp) (by simpa using h)]; simp [h]
    · rw [← hY 6 ⟨3072 + j, by omega⟩ (by simp) (by simpa using h)]; simp [h]
    · rw [← hY 7 ⟨3584 + j, by omega⟩ (by simp) (by simpa using h)]; simp [h]
  · rw [if_neg hin]
    have hne : ∀ p : ℕ, p < 8 → ¬ (q : ℕ) = lo + p := fun p hp e => hin (by omega)
    have h0 : ¬ (q : ℕ) = lo := fun e => hin (by omega)
    simp only [if_neg h0, if_neg (hne 1 (by omega)), if_neg (hne 2 (by omega)), if_neg (hne 3 (by omega)),
      if_neg (hne 4 (by omega)), if_neg (hne 5 (by omega)), if_neg (hne 6 (by omega)), if_neg (hne 7 (by omega)), add_zero]

/-! ## The products of a tile -/

/-- Tile 0: row `p * 512 + j` of its products is the relation of its row `p` and column `j` against the weights. -/
theorem prod0 (v : Vec Ideal S8x512x64 .bf16) (w : Vec Ideal S64x32 .f32) (p : Fin 8) (j : Fin 512) (q : Fin 32)
    (r : Fin 4096) (hr : (r : ℕ) = p * 512 + j) :
    k0_pay3 v w (ix2 r q) = ∑ k : Fin 64, (v (ix3 p j k) * w (ix2 k q) : EReal) := by
  pointwise [k0_pay3]
  refine Finset.sum_congr rfl fun k _ => ?_
  have h1 : (⟨r / 512, by omega⟩ : Fin 8) = p := Fin.ext (by simp only; omega)
  have h2 : (⟨r % 512, by omega⟩ : Fin 512) = j := Fin.ext (by simp only; omega)
  rw [h1, h2]

/-- Tile 1: row `p * 512 + j` of its products is the relation of its row `p` and column `j` against the weights. -/
theorem prod1 (v : Vec Ideal S8x512x64 .bf16) (w : Vec Ideal S64x32 .f32) (p : Fin 8) (j : Fin 512) (q : Fin 32)
    (r : Fin 4096) (hr : (r : ℕ) = p * 512 + j) :
    k0_pay12 v w (ix2 r q) = ∑ k : Fin 64, (v (ix3 p j k) * w (ix2 k q) : EReal) := by
  pointwise [k0_pay12]
  refine Finset.sum_congr rfl fun k _ => ?_
  have h1 : (⟨r / 512, by omega⟩ : Fin 8) = p := Fin.ext (by simp only; omega)
  have h2 : (⟨r % 512, by omega⟩ : Fin 512) = j := Fin.ext (by simp only; omega)
  rw [h1, h2]

/-- Tile 2: row `p * 512 + j` of its products is the relation of its row `p` and column `j` against the weights. -/
theorem prod2 (v : Vec Ideal S8x512x64 .bf16) (w : Vec Ideal S64x32 .f32) (p : Fin 8) (j : Fin 512) (q : Fin 32)
    (r : Fin 4096) (hr : (r : ℕ) = p * 512 + j) :
    k0_pay20 v w (ix2 r q) = ∑ k : Fin 64, (v (ix3 p j k) * w (ix2 k q) : EReal) := by
  pointwise [k0_pay20]
  refine Finset.sum_congr rfl fun k _ => ?_
  have h1 : (⟨r / 512, by omega⟩ : Fin 8) = p := Fin.ext (by simp only; omega)
  have h2 : (⟨r % 512, by omega⟩ : Fin 512) = j := Fin.ext (by simp only; omega)
  rw [h1, h2]

/-- Tile 3: row `p * 512 + j` of its products is the relation of its row `p` and column `j` against the weights. -/
theorem prod3 (v : Vec Ideal S8x512x64 .bf16) (w : Vec Ideal S64x32 .f32) (p : Fin 8) (j : Fin 512) (q : Fin 32)
    (r : Fin 4096) (hr : (r : ℕ) = p * 512 + j) :
    k0_pay31 v w (ix2 r q) = ∑ k : Fin 64, (v (ix3 p j k) * w (ix2 k q) : EReal) := by
  pointwise [k0_pay31]
  refine Finset.sum_congr rfl fun k _ => ?_
  have h1 : (⟨r / 512, by omega⟩ : Fin 8) = p := Fin.ext (by simp only; omega)
  have h2 : (⟨r % 512, by omega⟩ : Fin 512) = j := Fin.ext (by simp only; omega)
  rw [h1, h2]

/-! ## The scores of a block, tile by tile -/

section
variable (X : Vec Ideal S32x512x64 .bf16) (w : Vec Ideal S64x32 .f32)

/-- The relation of the block's row `q` and column `j`, against the weights. -/
def rel (j : Fin 512) (q : Fin 32) : EReal := ∑ k : Fin 64, (X (ix3 q j k) * w (ix2 k q) : EReal)

/-- `v` is tile `lo / 8` of the block: its eight rows from row `lo` on. -/
def IsTile (lo : ℕ) (v : Vec Ideal S8x512x64 .bf16) : Prop :=
  ∀ (p : Fin 8) (q : Fin 32) (j : Fin 512) (k : Fin 64), (q : ℕ) = lo + p → v (ix3 p j k) = X (ix3 q j k)

/-- Tile 0 adds to lanes 0 to 7 the relations of their rows. -/
theorem tile0 (v : Vec Ideal S8x512x64 .bf16) (hv : IsTile X 0 v) (y : FVec Ideal S512x32 .f32) (j : Fin 512) (q : Fin 32) :
    k0_pay11 y (k0_pay7 (k0_pay4 v w) (k0_pay5 v w) (FloatOps.ofBits FTy.f32 0#32) k0_pay6)
        (k0_pay8 (iota .tc S1x32 32 [1] iota_S1x32_d1_w32) (k0_pay3 v w)) (k0_pay9 (iota .tc S1x32 32 [1] iota_S1x32_d1_w32) (k0_pay3 v w)) (k0_pay10 (iota .tc S1x32 32 [1] iota_S1x32_d1_w32) (k0_pay3 v w)) (ix2 j q)
      = (y (ix2 j q) : EReal) + part 0 q (rel X w j q) := by
  have e := octet 0 (by omega) (k0_pay3 v w) (rel X w j q) j q fun p r hr hq => by
    rw [prod0 v w p j q r hr]; exact Finset.sum_congr rfl fun k _ => by rw [hv p q j k hq]
  simp only [Nat.reduceAdd] at e
  pointwise [k0_pay4, k0_pay5, k0_pay6, k0_pay7, k0_pay8, k0_pay9, k0_pay10, k0_pay11]
  rw [e]

/-- Tile 1 adds to lanes 8 to 15 the relations of their rows. -/
theorem tile1 (v : Vec Ideal S8x512x64 .bf16) (hv : IsTile X 8 v) (y : FVec Ideal S512x32 .f32) (j : Fin 512) (q : Fin 32) :
    k0_pay19 (iota .tc S1x32 32 [1] iota_S1x32_d1_w32) y (k0_pay12 v w) (k0_pay13 (iota .tc S1x32 32 [1] iota_S1x32_d1_w32) v w) (k0_pay14 (iota .tc S1x32 32 [1] iota_S1x32_d1_w32) v w) (k0_pay15 (iota .tc S1x32 32 [1] iota_S1x32_d1_w32) v w) (k0_pay16 (iota .tc S1x32 32 [1] iota_S1x32_d1_w32) v w)
        (k0_pay17 v w) (FloatOps.ofBits FTy.f32 0#32) (k0_pay18 (iota .tc S1x32 32 [1] iota_S1x32_d1_w32)) (ix2 j q)
      = (y (ix2 j q) : EReal) + part 8 q (rel X w j q) := by
  have e := octet 8 (by omega) (k0_pay12 v w) (rel X w j q) j q fun p r hr hq => by
    rw [prod1 v w p j q r hr]; exact Finset.sum_congr rfl fun k _ => by rw [hv p q j k hq]
  simp only [Nat.reduceAdd] at e
  pointwise [k0_pay13, k0_pay14, k0_pay15, k0_pay16, k0_pay17, k0_pay18, k0_pay19]
  rw [e]

/-- Tile 2 adds to lanes 16 to 23 the relations of their rows. -/
theorem tile2 (v : Vec Ideal S8x512x64 .bf16) (hv : IsTile X 16 v) (y : FVec Ideal S512x32 .f32) (j : Fin 512) (q : Fin 32) :
    k0_pay30 y (k0_pay21 (iota .tc S1x32 32 [1] iota_S1x32_d1_w32) v w) (k0_pay22 (iota .tc S1x32 32 [1] iota_S1x32_d1_w32) (k0_pay20 v w) 17#32) (k0_pay23 (iota .tc S1x32 32 [1] iota_S1x32_d1_w32) (k0_pay20 v w))
        (k0_pay24 (iota .tc S1x32 32 [1] iota_S1x32_d1_w32) (k0_pay20 v w)) (k0_pay25 (iota .tc S1x32 32 [1] iota_S1x32_d1_w32) (k0_pay20 v w)) (k0_pay26 (iota .tc S1x32 32 [1] iota_S1x32_d1_w32) (k0_pay20 v w))
        (k0_pay27 (iota .tc S1x32 32 [1] iota_S1x32_d1_w32) (k0_pay20 v w)) (k0_pay28 (k0_pay20 v w)) (FloatOps.ofBits FTy.f32 0#32) (k0_pay29 (iota .tc S1x32 32 [1] iota_S1x32_d1_w32)) (ix2 j q)
      = (y (ix2 j q) : EReal) + part 16 q (rel X w j q) := by
  have e := octet 16 (by omega) (k0_pay20 v w) (rel X w j q) j q fun p r hr hq => by
    rw [prod2 v w p j q r hr]; exact Finset.sum_congr rfl fun k _ => by rw [hv p q j k hq]
  simp only [Nat.reduceAdd] at e
  pointwise [k0_pay21, k0_pay22, k0_pay23, k0_pay24, k0_pay25, k0_pay26, k0_pay27, k0_pay28, k0_pay29, k0_pay30]
  rw [e]

/-- Tile 3 adds to lanes 24 to 31 the relations of their rows; then the mask and the small negative number turn the
    logits into scores. -/
theorem tile3 (v : Vec Ideal S8x512x64 .bf16) (hv : IsTile X 24 v) (y : FVec Ideal S512x32 .f32)
    (N : Vec Ideal S1x512x32 .i32) (j : Fin 512) (q : Fin 32) :
    k0_pay37 (iota .tc S1x32 32 [1] iota_S1x32_d1_w32) y (k0_pay31 v w) (k0_pay32 (iota .tc S1x32 32 [1] iota_S1x32_d1_w32) v w) (k0_pay33 (iota .tc S1x32 32 [1] iota_S1x32_d1_w32) v w) (k0_pay34 (iota .tc S1x32 32 [1] iota_S1x32_d1_w32) v w) (k0_pay35 (iota .tc S1x32 32 [1] iota_S1x32_d1_w32) v w) 28#32 N (ix2 j q)
      = fill (k0_pay36 (F := Ideal) N (ix2 j q))
        ((y (ix2 j q) : EReal) + part 24 q (rel X w j q)) := by
  have e := octet 24 (by omega) (k0_pay31 v w) (rel X w j q) j q fun p r hr hq => by
    rw [prod3 v w p j q r hr]; exact Finset.sum_congr rfl fun k _ => by rw [hv p q j k hq]
  simp only [Nat.reduceAdd] at e
  pointwise [k0_pay37, k0_pay32, k0_pay33, k0_pay34, k0_pay35]
  rw [e]
  rfl

/-- A lane lies in one of the four tiles, so the four contributions add up to the relation of its row. -/
theorem four_tiles (q : Fin 32) (y P : EReal) :
    y + part 0 q P + part 8 q P
      + part 16 q P + part 24 q P = y + P := by
  have hq := q.isLt
  unfold part
  have hc : (q : ℕ) / 8 = 0 ∨ (q : ℕ) / 8 = 1 ∨ (q : ℕ) / 8 = 2 ∨ (q : ℕ) / 8 = 3 := by omega
  rcases hc with h | h | h | h
  · rw [if_pos (by omega), if_neg (by omega), if_neg (by omega), if_neg (by omega), add_zero, add_zero, add_zero]
  · rw [if_neg (by omega), if_pos (by omega), if_neg (by omega), if_neg (by omega), add_zero, add_zero, add_zero]
  · rw [if_neg (by omega), if_neg (by omega), if_pos (by omega), if_neg (by omega), add_zero, add_zero, add_zero]
  · rw [if_neg (by omega), if_neg (by omega), if_neg (by omega), if_pos (by omega), add_zero, add_zero, add_zero]

/-- The part of a logit the states give: the column's state, the row's state, the bias. -/
theorem states_at (H : Vec Ideal S512x64 .f32) (b : Vec Ideal S1x1 .f32) (w2 : Vec Ideal S64x1 .f32) (Hb : Vec Ideal S32x64 .f32)
    (w1 : Vec Ideal S1x64 .f32) (j : Fin 512) (q : Fin 32) :
    k0_pay2 H b w2 Hb w1 (ix2 j q)
      = (∑ k : Fin 64, (H (ix2 j k) * w2 (ix2 k 0) : EReal)) + (∑ k : Fin 64, (w1 (ix2 0 k) * Hb (ix2 q k) : EReal)) + b (ix2 0 0) := by
  pointwise [k0_pay2]

/-- The mask bit of column `j` in lane `q`. -/
theorem mask_at (N : Vec Ideal S1x512x32 .i32) (j : Fin 512) (q : Fin 32) :
    k0_pay36 (F := Ideal) N (ix2 j q) = IntOp.cmpi .sgt (N (ix3 0 j q)) 0#32 := by
  pointwise [k0_pay36]

/-- THE SCORES OF A BLOCK: column `j` in lane `q`, from the block's loads. -/
theorem score_at (v0 v1 v2 v3 : Vec Ideal S8x512x64 .bf16) (h0 : IsTile X 0 v0) (h1 : IsTile X 8 v1) (h2 : IsTile X 16 v2)
    (h3 : IsTile X 24 v3) (H : Vec Ideal S512x64 .f32) (b : Vec Ideal S1x1 .f32) (w2 : Vec Ideal S64x1 .f32)
    (Hb : Vec Ideal S32x64 .f32) (w1 : Vec Ideal S1x64 .f32) (N : Vec Ideal S1x512x32 .i32) (j : Fin 512) (q : Fin 32) :
    k0_pay37 (iota .tc S1x32 32 [1] iota_S1x32_d1_w32)
        (k0_pay30
          (k0_pay19 (iota .tc S1x32 32 [1] iota_S1x32_d1_w32)
            (k0_pay11 (k0_pay2 H b w2 Hb w1) (k0_pay7 (k0_pay4 v0 w) (k0_pay5 v0 w) (FloatOps.ofBits FTy.f32 0#32) k0_pay6)
              (k0_pay8 (iota .tc S1x32 32 [1] iota_S1x32_d1_w32) (k0_pay3 v0 w)) (k0_pay9 (iota .tc S1x32 32 [1] iota_S1x32_d1_w32) (k0_pay3 v0 w)) (k0_pay10 (iota .tc S1x32 32 [1] iota_S1x32_d1_w32) (k0_pay3 v0 w)))
            (k0_pay12 v1 w) (k0_pay13 (iota .tc S1x32 32 [1] iota_S1x32_d1_w32) v1 w) (k0_pay14 (iota .tc S1x32 32 [1] iota_S1x32_d1_w32) v1 w) (k0_pay15 (iota .tc S1x32 32 [1] iota_S1x32_d1_w32) v1 w) (k0_pay16 (iota .tc S1x32 32 [1] iota_S1x32_d1_w32) v1 w)
            (k0_pay17 v1 w) (FloatOps.ofBits FTy.f32 0#32) (k0_pay18 (iota .tc S1x32 32 [1] iota_S1x32_d1_w32)))
          (k0_pay21 (iota .tc S1x32 32 [1] iota_S1x32_d1_w32) v2 w) (k0_pay22 (iota .tc S1x32 32 [1] iota_S1x32_d1_w32) (k0_pay20 v2 w) 17#32) (k0_pay23 (iota .tc S1x32 32 [1] iota_S1x32_d1_w32) (k0_pay20 v2 w))
          (k0_pay24 (iota .tc S1x32 32 [1] iota_S1x32_d1_w32) (k0_pay20 v2 w)) (k0_pay25 (iota .tc S1x32 32 [1] iota_S1x32_d1_w32) (k0_pay20 v2 w)) (k0_pay26 (iota .tc S1x32 32 [1] iota_S1x32_d1_w32) (k0_pay20 v2 w))
          (k0_pay27 (iota .tc S1x32 32 [1] iota_S1x32_d1_w32) (k0_pay20 v2 w)) (k0_pay28 (k0_pay20 v2 w)) (FloatOps.ofBits FTy.f32 0#32) (k0_pay29 (iota .tc S1x32 32 [1] iota_S1x32_d1_w32)))
        (k0_pay31 v3 w) (k0_pay32 (iota .tc S1x32 32 [1] iota_S1x32_d1_w32) v3 w) (k0_pay33 (iota .tc S1x32 32 [1] iota_S1x32_d1_w32) v3 w) (k0_pay34 (iota .tc S1x32 32 [1] iota_S1x32_d1_w32) v3 w) (k0_pay35 (iota .tc S1x32 32 [1] iota_S1x32_d1_w32) v3 w) 28#32 N (ix2 j q)
      = fill (IntOp.cmpi .sgt (N (ix3 0 j q)) 0#32)
        ((∑ k : Fin 64, (H (ix2 j k) * w2 (ix2 k 0) : EReal)) + (∑ k : Fin 64, (w1 (ix2 0 k) * Hb (ix2 q k) : EReal)) + b (ix2 0 0)
          + ∑ k : Fin 64, (X (ix3 q j k) * w (ix2 k q) : EReal)) := by
  rw [tile3 X w v3 h3, tile2 X w v2 h2, tile1 X w v1 h1, tile0 X w v0 h0, four_tiles, states_at, mask_at]
  rfl

end

/-! ## The rows of the result -/

/-- THE ROWS OF A BLOCK: from the mask bits and the scores, row `q` of the block's result at feature `d`. -/
theorem out_at (H : Vec Ideal S512x64 .f32) (c : IVec S512x32 1) (S : FVec Ideal S512x32 .f32) (q : Fin 32) (d : Fin 64) :
    k0_pay1 H c S (ix2 q d)
      = ∑ j : Fin 512, Scalar.select (c (ix2 j q))
        (Ideal.div (Ideal.exp (S (ix2 j q) - Finset.univ.fold max ⊥ fun p : Fin 32 => Finset.univ.fold max ⊥ fun k : Fin 512 => S (ix2 k p)))
          (∑ l : Fin 512, Ideal.exp (S (ix2 l q) - Finset.univ.fold max ⊥ fun p : Fin 32 => Finset.univ.fold max ⊥ fun k : Fin 512 => S (ix2 k p)))
          * H (ix2 j d)) (0 : EReal) := by
  pointwise [k0_pay1]
  rw [ofBits_bot]

/-- THE BLOCK IN THE WHOLE: a block's loads hold the states, the relations, the neighbour table and the weights of its 32
    rows `row q`; then what it stores is the attention step of those rows, shifted by the greatest score of the block. -/
theorem rows_at (X : Vec Ideal S32x512x64 .bf16) (w : Vec Ideal S64x32 .f32)
    (v0 v1 v2 v3 : Vec Ideal S8x512x64 .bf16) (h0 : IsTile X 0 v0) (h1 : IsTile X 8 v1) (h2 : IsTile X 16 v2)
    (h3 : IsTile X 24 v3) (H : Vec Ideal S512x64 .f32) (b : Vec Ideal S1x1 .f32) (w2 : Vec Ideal S64x1 .f32)
    (Hb : Vec Ideal S32x64 .f32) (w1 : Vec Ideal S1x64 .f32) (N : Vec Ideal S1x512x32 .i32)
    (hid : Fin 512 → Fin 64 → EReal) (rela : Fin 512 → Fin 512 → Fin 64 → EReal) (nei : Fin 512 → Fin 512 → BitVec 32)
    (wt : Fin 192 → EReal) (bias : EReal) (row : Fin 32 → Fin 512) (t : ℕ) (hrow : ∀ q, (row q : ℕ) = t * 32 + q)
    (eH : ∀ j k, H (ix2 j k) = hid j k) (eHb : ∀ q k, Hb (ix2 q k) = hid (row q) k)
    (eX : ∀ q j k, X (ix3 q j k) = rela (row q) j k) (eN : ∀ q j, N (ix3 0 j q) = nei (row q) j)
    (ew : ∀ (k : Fin 64) (q : Fin 32), w (ix2 k q) = wt ⟨k, by omega⟩) (ew1 : ∀ k : Fin 64, w1 (ix2 0 k) = wt ⟨64 + k, by omega⟩)
    (ew2 : ∀ k : Fin 64, w2 (ix2 k 0) = wt ⟨128 + k, by omega⟩) (eb : b (ix2 0 0) = bias) (q : Fin 32) (d : Fin 64) :
    k0_pay1 H (k0_pay36 N)
      (k0_pay37 (iota .tc S1x32 32 [1] iota_S1x32_d1_w32)
        (k0_pay30
          (k0_pay19 (iota .tc S1x32 32 [1] iota_S1x32_d1_w32)
            (k0_pay11 (k0_pay2 H b w2 Hb w1) (k0_pay7 (k0_pay4 v0 w) (k0_pay5 v0 w) (FloatOps.ofBits FTy.f32 0#32) k0_pay6)
              (k0_pay8 (iota .tc S1x32 32 [1] iota_S1x32_d1_w32) (k0_pay3 v0 w)) (k0_pay9 (iota .tc S1x32 32 [1] iota_S1x32_d1_w32) (k0_pay3 v0 w)) (k0_pay10 (iota .tc S1x32 32 [1] iota_S1x32_d1_w32) (k0_pay3 v0 w)))
            (k0_pay12 v1 w) (k0_pay13 (iota .tc S1x32 32 [1] iota_S1x32_d1_w32) v1 w) (k0_pay14 (iota .tc S1x32 32 [1] iota_S1x32_d1_w32) v1 w) (k0_pay15 (iota .tc S1x32 32 [1] iota_S1x32_d1_w32) v1 w) (k0_pay16 (iota .tc S1x32 32 [1] iota_S1x32_d1_w32) v1 w)
            (k0_pay17 v1 w) (FloatOps.ofBits FTy.f32 0#32) (k0_pay18 (iota .tc S1x32 32 [1] iota_S1x32_d1_w32)))
          (k0_pay21 (iota .tc S1x32 32 [1] iota_S1x32_d1_w32) v2 w) (k0_pay22 (iota .tc S1x32 32 [1] iota_S1x32_d1_w32) (k0_pay20 v2 w) 17#32) (k0_pay23 (iota .tc S1x32 32 [1] iota_S1x32_d1_w32) (k0_pay20 v2 w))
          (k0_pay24 (iota .tc S1x32 32 [1] iota_S1x32_d1_w32) (k0_pay20 v2 w)) (k0_pay25 (iota .tc S1x32 32 [1] iota_S1x32_d1_w32) (k0_pay20 v2 w)) (k0_pay26 (iota .tc S1x32 32 [1] iota_S1x32_d1_w32) (k0_pay20 v2 w))
          (k0_pay27 (iota .tc S1x32 32 [1] iota_S1x32_d1_w32) (k0_pay20 v2 w)) (k0_pay28 (k0_pay20 v2 w)) (FloatOps.ofBits FTy.f32 0#32) (k0_pay29 (iota .tc S1x32 32 [1] iota_S1x32_d1_w32)))
        (k0_pay31 v3 w) (k0_pay32 (iota .tc S1x32 32 [1] iota_S1x32_d1_w32) v3 w) (k0_pay33 (iota .tc S1x32 32 [1] iota_S1x32_d1_w32) v3 w) (k0_pay34 (iota .tc S1x32 32 [1] iota_S1x32_d1_w32) v3 w) (k0_pay35 (iota .tc S1x32 32 [1] iota_S1x32_d1_w32) v3 w) 28#32 N) (ix2 q d)
      = attend (score hid rela nei wt bias) (mask nei) hid (blockMax (score hid rela nei wt bias) (row q)) (row q) d := by
  have hS : ∀ (j : Fin 512) (p : Fin 32), _ = score hid rela nei wt bias (row p) j := fun j p =>
    (score_at X w v0 v1 v2 v3 h0 h1 h2 h3 H b w2 Hb w1 N j p).trans (by
      unfold score mask linear
      simp only [eH, eHb, eX, eN, ew, ew1, ew2, eb]
      congr 1
      rw [add_comm (∑ k : Fin 64, hid j k * _), add_comm (_ + _ + bias), ← add_assoc (Finset.sum _ _) (_ + _) bias]
      simp only [mul_comm (wt _)])
  have hR : ∀ p : Fin 32, blockRow (row q) p = row p := fun p => Fin.ext (by
    have h1 := hrow q
    have h2 := hrow p
    have h3 := q.isLt
    simp only [blockRow]
    omega)
  rw [out_at]
  simp only [hS, mask_at, eN, eH]
  unfold attend blockMax mask
  simp only [hR]

end Cert.KernelIdeal.Att

end
-- ==== Proof.Array.lean ====
/- What the result array of the kernel holds after the run: every row of the attention step, shifted by the greatest score
   of the row's block of 32 rows. -/
module

public import proofs.«01_k».proof.Proof.Gen.KernelIdeal.Value
public import proofs.«01_k».proof.Proof.Block
public import Idealize.ShloMosaic.Lib.Pointwise
public import Idealize.ShloMosaic.Lib.Pipeline.ValueKit

@[expose] public section

set_option maxRecDepth 16384

noncomputable section

namespace Cert.KernelIdeal.Att

open Cert.KernelIdeal Cert.KernelIdeal.Gen Cert.Att Idealize.ShloMosaic Idealize.ShloMosaic.TcCoe Idealize.SL.Sem

variable (m : (ℓ : Loc nD τ sig) → Buf (Elt Ideal) ℓ)

/-! ## The arguments as functions of their coordinates -/

/-- The states. -/
def hid (c : Dev nD) (i : Fin 512) (k : Fin 64) : EReal := m ((c : Thread nD τ).loc main_arg0) (ix2 i k)

/-- The relations. -/
def rela (c : Dev nD) (i j : Fin 512) (k : Fin 64) : EReal := m ((c : Thread nD τ).loc main_arg1) (ix3 i j k)

/-- The neighbour table. -/
def nei (c : Dev nD) (i j : Fin 512) : BitVec 32 := m ((c : Thread nD τ).loc main_arg3) (ix2 i j)

/-- The weights. -/
def wt (c : Dev nD) (k : Fin 192) : EReal := m ((c : Thread nD τ).loc main_arg4) (ix2 0 k)

/-- The bias. -/
def bias (c : Dev nD) : EReal := m ((c : Thread nD τ).loc main_arg5) (ix1 0)

/-- The scores. -/
def scores (c : Dev nD) : Fin 512 → Fin 512 → EReal := score (hid m c) (rela m c) (nei m c) (wt m c) (bias m c)

/-! ## The blocks the kernel is handed -/

/-- Point `t` is handed block `t` of the relations, of the neighbour table and of the result, and every other operand
    whole; its own 32 states begin at row `t * 32`. -/
theorem idx : ∀ t : Fin cfg0.N, win0_0.index t = ![0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![t.val, 0] ∧ k0_off1 (grid0.coords t) = ![t.val * 32, 0] ∧ t.val < 16 :=
  (by decide +kernel : ∀ t : Fin grid0.N, _)

/-- Row `q` of point `t`'s block, in the whole. -/
def row (t : Fin cfg0.N) (q : Fin 32) : Fin 512 := ⟨t.val * 32 + q, by have := (idx t).2.2.2.2.2.2.2.2.2; omega⟩

/-- The states are handed whole. -/
theorem blk0 (c : Dev nD) (t : Fin cfg0.N) (i : Fin 512) (k : Fin 64) : iblk m c 0 t (ix2 i k) = hid m c i k := by
  unfold hid
  blk_ext [iblk, V_main_arg0, idx t]

/-- Point `t` is handed the relations of its rows. -/
theorem blk1 (c : Dev nD) (t : Fin cfg0.N) (q : Fin 32) (j : Fin 512) (k : Fin 64) :
    iblk m c 1 t (ix3 q j k) = rela m c (row t q) j k := by
  unfold rela row
  blk_simp [iblk, idx t]
  entry_read
  pointwise
  blk_ext [idx t]

/-- Point `t` is handed the neighbour entries of its rows, with the columns first. -/
theorem blk2 (c : Dev nD) (t : Fin cfg0.N) (q : Fin 32) (j : Fin 512) : iblk m c 2 t (ix3 0 j q) = nei m c (row t q) j := by
  unfold nei row
  blk_simp [iblk, idx t]
  entry_read
  pointwise
  blk_ext [idx t]

/-- The relations' third of the weights, repeated over the lanes. -/
theorem blk3 (c : Dev nD) (t : Fin cfg0.N) (k : Fin 64) (q : Fin 32) : iblk m c 3 t (ix2 k q) = wt m c ⟨k, by omega⟩ := by
  unfold wt
  blk_simp [iblk, idx t]
  entry_read
  pointwise
  blk_ext [idx t]

/-- The row state's third of the weights. -/
theorem blk4 (c : Dev nD) (t : Fin cfg0.N) (k : Fin 64) : iblk m c 4 t (ix2 0 k) = wt m c ⟨64 + k, by omega⟩ := by
  unfold wt
  blk_simp [iblk, idx t]
  entry_read
  pointwise
  blk_ext [idx t]

/-- The column state's third of the weights. -/
theorem blk5 (c : Dev nD) (t : Fin cfg0.N) (k : Fin 64) : iblk m c 5 t (ix2 k 0) = wt m c ⟨128 + k, by omega⟩ := by
  unfold wt
  blk_simp [iblk, idx t]
  entry_read
  pointwise
  blk_ext [idx t]

/-- The bias. -/
theorem blk6 (c : Dev nD) (t : Fin cfg0.N) : iblk m c 6 t (ix2 0 0) = bias m c := by
  unfold bias
  blk_simp [iblk, idx t]
  entry_read
  pointwise

/-! ## The result array -/

/-- The attention step, every row shifted by the greatest score of its block of 32 rows. -/
def blockStep (c : Dev nD) : FVec Ideal S512x64 .f32 := fun i =>
  attend (scores m c) (mask (nei m c)) (hid m c) (blockMax (scores m c) (i 0)) (i 0) (i 1)

/-- After the run the result array holds the attention step with the block shift. -/
theorem final (c : Dev nD) : (dats m 0 c).arrAt 7 cfg0.N = blockStep m c := by
  refine (dats m 0 c).arrAt_eq_of_covers 7 _ (by decide +kernel) fun t hf y => ?_
  blk_simp
  rw [after0_7]
  unfold outsAt0
  frame_out
  obtain ⟨q, d, rfl⟩ : ∃ (q : Fin 32) (d : Fin 64), y = ix2 q d := ⟨y 0, y 1, eq_ix2 y⟩
  refine (rows_at _ _ _ _ _ _ ?_ ?_ ?_ ?_ _ _ _ _ _ _ (hid m c) (rela m c) (nei m c) (wt m c) (bias m c) (row t) t.val
    (fun _ => rfl) (blk0 m c t) ?_ (blk1 m c t) (blk2 m c t) (blk3 m c t) (blk4 m c t) (blk5 m c t) (blk6 m c t) q d).trans ?_
  · intro p q j k h
    pointwise
    exact congrArg (fun a => iblk m c 1 t (ix3 a j k)) (Fin.ext (by simp only; omega))
  · intro p q j k h
    pointwise
    exact congrArg (fun a => iblk m c 1 t (ix3 a j k)) (Fin.ext (by simp only; omega))
  · intro p q j k h
    pointwise
    exact congrArg (fun a => iblk m c 1 t (ix3 a j k)) (Fin.ext (by simp only; omega))
  · intro p q j k h
    pointwise
    exact congrArg (fun a => iblk m c 1 t (ix3 a j k)) (Fin.ext (by simp only; omega))
  · intro q k
    pointwise
    refine (blk0 m c t _ _).trans ?_
    have ho : k0_off1 (grid0.coords t) = ![t.val * 32, 0] := by simp only [idx t]
    unfold row
    congr 1 <;> exact Fin.ext (by simp [ho])
  · have e : ((View.whole main_v11).slice (win0_7.rect t)).emb (ix2 q d) = ix2 (row t q) d := by
      blk_ext [idx t, row]
    rw [e]
    rfl

end Cert.KernelIdeal.Att

end
-- ==== Proof.Reference.lean ====
/- What the reference computes: the softmax of each row's scores, shifted by the row's own maximum, against the states. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Att

open Cert.ReferenceIdeal Cert.ReferenceIdeal.Gen Cert.ReferenceIdeal.Read Cert.Att Idealize.ShloMosaic Idealize.ShloMosaic.TcCoe Idealize.SL.Sem

variable (x0 : FVec Ideal S512x64 .f32) (x1 : FVec Ideal S512x512x64 .f32) (x3 : IVec S512x512 32)
  (x4 : FVec Ideal S1x192 .f32) (x5 : FVec Ideal S1 .f32)

/-- Row `i`, column `j`, in the flattened list of pairs. -/
def flat (i j : Fin 512) : Fin 262144 := ⟨i.val * 512 + j.val, by omega⟩

/-- Its row is the quotient by the length of a row … -/
theorem flat_div (i j : Fin 512) (h : (flat i j : ℕ) / 512 < 512) : (⟨(flat i j : ℕ) / 512, h⟩ : Fin 512) = i :=
  Fin.ext (by simp only [flat]; omega)

/-- … and its column the remainder. -/
theorem flat_mod (i j : Fin 512) (h : (flat i j : ℕ) % 512 < 512) : (⟨(flat i j : ℕ) % 512, h⟩ : Fin 512) = j :=
  Fin.ext (by simp only [flat]; omega)

/-! ## The features of a pair -/

/-- The first 64 features of a pair are its relation. -/
theorem feature_rel (i j : Fin 512) (k : Fin 64) :
    val_main_v9 (F := Ideal) x0 x1 (ix2 (flat i j) ⟨k, by omega⟩) = x1 (ix3 i j k) := by
  pointwise [val_main_v9, val_main_v5]
  rw [flat_div, flat_mod]

/-- The next 64 are the row's state. -/
theorem feature_row (i j : Fin 512) (k : Fin 64) :
    val_main_v9 (F := Ideal) x0 x1 (ix2 (flat i j) ⟨64 + k, by omega⟩) = x0 (ix2 i k) := by
  pointwise [val_main_v9, val_main_v4, val_main_v3]
  rw [flat_div]

/-- The last 64 are the column's state. -/
theorem feature_col (i j : Fin 512) (k : Fin 64) :
    val_main_v9 (F := Ideal) x0 x1 (ix2 (flat i j) ⟨128 + k, by omega⟩) = x0 (ix2 j k) := by
  pointwise [val_main_v9, val_main_v2, val_main_v1, val_main_v0]
  rw [dif_neg (by omega), dif_neg (by omega), flat_mod]
  exact congrArg (fun a => x0 (ix2 j a)) (Fin.ext (by simp only; omega))

/-- A sum over 192 features is the sum over its three thirds. -/
theorem sum_thirds (f : Fin 192 → EReal) :
    ∑ k : Fin 192, f k = (∑ k : Fin 64, f ⟨k, by omega⟩)
      + ((∑ k : Fin 64, f ⟨64 + k, by omega⟩) + ∑ k : Fin 64, f ⟨128 + k, by omega⟩) := by
  refine (Fin.sum_univ_add (a := 64) (b := 128) f).trans (congrArg₂ (· + ·) rfl ?_)
  refine (Fin.sum_univ_add (a := 64) (b := 64) fun k => f (Fin.natAdd 64 k)).trans (congrArg₂ (· + ·) rfl ?_)
  exact Finset.sum_congr rfl fun k _ => congrArg f (Fin.ext (by simp only [Fin.val_natAdd]; omega))

/-! ## The scores -/

/-- The logit of a pair. -/
theorem logit (i j : Fin 512) :
    val_main_v14 (F := Ideal) x0 x1 x4 x5 (ix2 (flat i j) 0)
      = linear (fun i k => x0 (ix2 i k)) (fun i j k => x1 (ix3 i j k)) (fun k => x4 (ix2 0 k)) i j + x5 (ix1 0) := by
  pointwise [val_main_v14, val_main_v13, val_main_v12, val_main_v11, val_main_v10]
  unfold linear
  refine congrArg (· + _) ((sum_thirds _).trans ?_)
  refine congrArg₂ (· + ·) (Finset.sum_congr rfl fun k _ => congrArg (· * _) (feature_rel x0 x1 i j k)) (congrArg₂ (· + ·)
    (Finset.sum_congr rfl fun k _ => congrArg (· * _) (feature_row x0 x1 i j k))
    (Finset.sum_congr rfl fun k _ => congrArg (· * _) (feature_col x0 x1 i j k)))

/-- The zero a masked-out entry takes. -/
theorem masked_zero : (id (constant (F := Ideal) S_ .f32 0#32) : FVec Ideal S_ .f32) ix0 = (0 : EReal) := by
  rw [id_eq]
  pointwise

/-- The score of a pair. -/
theorem score_ref (i j : Fin 512) :
    val_main_v20 (F := Ideal) x0 x1 x3 x4 x5 (ix2 i j)
      = score (fun i k => x0 (ix2 i k)) (fun i j k => x1 (ix3 i j k)) (fun i j => x3 (ix2 i j)) (fun k => x4 (ix2 0 k))
        (x5 (ix1 0)) i j := by
  pointwise [val_main_v20, val_main_v19, val_main_v18, val_main_v17, val_main_v16, val_main_v15, val_main_v8, val_main_v7,
    val_main_v6, val_main_c, val_main_cst, val_main_call0_v0, val_main_call0_v1, val_main_call1_v0, val_main_cst_0,
    val_main_cst_1]
  rw [masked_zero]
  have h := logit x0 x1 x4 x5 i j
  unfold flat at h
  rw [h]
  rfl

/-! ## The softmax and the result -/

/-- The exponential of a score less the greatest score of its row. -/
theorem exp_ref (i j : Fin 512) :
    val_main_v27 (F := Ideal) x0 x1 x3 x4 x5 (ix2 i j)
      = Ideal.exp (val_main_v20 (F := Ideal) x0 x1 x3 x4 x5 (ix2 i j)
        - rowMax (fun i j => val_main_v20 (F := Ideal) x0 x1 x3 x4 x5 (ix2 i j)) i) := by
  pointwise [val_main_v27, val_main_v26, val_main_v25, val_main_v24, val_main_v23, val_main_v22, val_main_v21,
    val_main_cst_2, val_main_cst_3]
  rw [ofBits_bot, bot_sup_eq]
  rfl

/-- The weight of a column in its row's softmax. -/
theorem ratio_ref (i j : Fin 512) :
    val_main_v31 (F := Ideal) x0 x1 x3 x4 x5 (ix2 i j)
      = Ideal.div (val_main_v27 (F := Ideal) x0 x1 x3 x4 x5 (ix2 i j))
        (∑ k : Fin 512, val_main_v27 (F := Ideal) x0 x1 x3 x4 x5 (ix2 i k)) := by
  pointwise [val_main_v31, val_main_v30, val_main_v29, val_main_v28, val_main_cst_4]

/-- The reference's result: each row of scores through its softmax, shifted by the row's own maximum, against the states. -/
theorem result_ref (i : Fin 512) (d : Fin 64) :
    val_main_v39 (F := Ideal) x0 x1 x3 x4 x5 (ix2 i d)
      = attend
        (score (fun i k => x0 (ix2 i k)) (fun i j k => x1 (ix3 i j k)) (fun i j => x3 (ix2 i j)) (fun k => x4 (ix2 0 k))
          (x5 (ix1 0)))
        (mask fun i j => x3 (ix2 i j)) (fun i k => x0 (ix2 i k))
        (rowMax (score (fun i k => x0 (ix2 i k)) (fun i j k => x1 (ix3 i j k)) (fun i j => x3 (ix2 i j))
          (fun k => x4 (ix2 0 k)) (x5 (ix1 0))) i) i d := by
  pointwise [val_main_v39, val_main_v38, val_main_v37, val_main_v36, val_main_v35, val_main_v34, val_main_v33, val_main_v32,
    val_main_call2_v0, val_main_call2_v1, val_main_call2_v2, val_main_cst_5, val_main_cst_6, val_main_v8, val_main_v7,
    val_main_v6, val_main_c, val_main_v2, val_main_v1, val_main_v0]
  simp only [ratio_ref, exp_ref, score_ref]
  unfold attend mask
  exact Finset.sum_congr rfl fun j _ => congrArg₂ (Scalar.select _) (mul_comm _ _) masked_zero

end Cert.ReferenceIdeal.Att

end
-- ==== Proof.Finite.lean ====
/- What the precondition gives: every state, every relation and every weight is finite. -/
module

public import proofs.«01_k».proof.Proof.Gen.Pre_finite_logits
public import proofs.«01_k».proof.Proof.Spec
public import Idealize.ShloMosaic.Lib.Pointwise

@[expose] public section

set_option maxRecDepth 16384

noncomputable section

namespace Cert.Pre_finite_logits.Att

open Cert.Pre_finite_logits Cert.Pre_finite_logits.Gen Cert.Att Idealize.ShloMosaic

/-- An extended real whose absolute value is less than infinity is finite. -/
theorem fine_of_abs {x : EReal} (h : (FloatOps.absf (F := Ideal) (φ := .f32) x : EReal) < ⊤) : Fine x := by
  induction x with
  | bot => exact absurd h (by simp [FloatOps.absf])
  | top => exact absurd h (by simp [FloatOps.absf])
  | coe r => exact ⟨r, rfl⟩

/-- If the greatest of some absolute values is less than infinity, every one of the numbers is finite. -/
theorem fine_of_fold {ι : Type} [Fintype ι] (f : ι → EReal)
    (h : BitVec.ofBool (decide (Finset.univ.fold max (Ideal.ofBits .f32 4286578688#32)
      (fun k => (FloatOps.absf (F := Ideal) (φ := .f32) (f k) : EReal)) < Ideal.ofBits .f32 2139095040#32)) = 1#1) (k : ι) :
    Fine (f k) := by
  have h' : Finset.univ.fold max (Ideal.ofBits .f32 4286578688#32)
      (fun k => (FloatOps.absf (F := Ideal) (φ := .f32) (f k) : EReal)) < Ideal.ofBits .f32 2139095040#32 := by
    by_contra hn
    simp [hn] at h
  rw [ofBits_top] at h'
  exact fine_of_abs (((Finset.fold_max_lt _).1 h').2 k (Finset.mem_univ k))

/-- The test on a matrix: if it passes, every entry is finite. -/
theorem fine_of_test2 {a b : ℕ} (x : FVec Ideal ⟨2, ![a, b]⟩ .f32) (h : (⟨2, ![a, b]⟩ : Shape).ReducesTo [0, 1] S_)
    (hu : 0 < S_.numel)
    (ht : cmpf .olt (Host.reduce FloatOps.maximumf (Host.absf x) (constant S_ .f32 0xFF800000#32) h hu)
      (constant S_ .f32 0x7F800000#32) ix0 = 1#1) (i : Fin a) (k : Fin b) : Fine (x (ix2 i k)) := by
  revert ht
  pointwise
  exact fun ht => fine_of_fold (fun k : Fin a × Fin b => x (ix2 k.1 k.2)) ht (i, k)

/-- The test on a three-dimensional array: if it passes, every entry is finite. -/
theorem fine_of_test3 {a b c : ℕ} (x : FVec Ideal ⟨3, ![a, b, c]⟩ .f32)
    (h : (⟨3, ![a, b, c]⟩ : Shape).ReducesTo [0, 1, 2] S_) (hu : 0 < S_.numel)
    (ht : cmpf .olt (Host.reduce FloatOps.maximumf (Host.absf x) (constant S_ .f32 0xFF800000#32) h hu)
      (constant S_ .f32 0x7F800000#32) ix0 = 1#1) (i : Fin a) (j : Fin b) (k : Fin c) : Fine (x (ix3 i j k)) := by
  revert ht
  pointwise
  exact fun ht => fine_of_fold (fun k : Fin a × Fin b × Fin c => x (ix3 k.1 k.2.1 k.2.2)) ht (i, j, k)

/-- Two bits whose conjunction is one are both one. -/
theorem both_one : ∀ a b : BitVec 1, IntOp.andi a b = 1#1 → a = 1#1 ∧ b = 1#1 := by decide

/-- Under the precondition every state, every relation and every weight is finite. -/
theorem opened (x0 : FVec Ideal S512x64 .f32) (x1 : FVec Ideal S512x512x64 .f32) (x2 : FVec Ideal S512x512x2 .f32)
    (x3 : IVec S512x512 32) (x4 : FVec Ideal S1x192 .f32) (x5 : FVec Ideal S1 .f32)
    (h : fn (F := Ideal) x0 x1 x2 x3 x4 x5 = fun _ => 1#1) :
    (∀ i k, Fine (x0 (ix2 i k))) ∧ (∀ i j k, Fine (x1 (ix3 i j k))) ∧ ∀ k, Fine (x4 (ix2 0 k)) := by
  obtain ⟨h01, h4⟩ := both_one _ _ (congrFun h ix0)
  obtain ⟨h0, h1⟩ := both_one _ _ h01
  exact ⟨fine_of_test2 x0 _ _ h0, fine_of_test3 x1 _ _ h1, fine_of_test2 x4 _ _ h4 0⟩

end Cert.Pre_finite_logits.Att

end
-- ==== Proof.Equation.lean ====
/- The equation: what the reference computes from the kernel's arguments is the array the kernel leaves. -/
module

public import proofs.«01_k».proof.Proof.Array
public import proofs.«01_k».proof.Proof.Reference
public import proofs.«01_k».proof.Proof.Finite

@[expose] public section

set_option maxRecDepth 16384

noncomputable section

namespace Cert.KernelIdeal.Att

open Cert.KernelIdeal Cert.KernelIdeal.Gen Cert.Att Idealize.ShloMosaic Idealize.ShloMosaic.TcCoe Idealize.SL.Sem

/-- Under the precondition the reference's result is the kernel's: the shift by the row's own maximum and the shift by
    the maximum of the row's block give one softmax. -/
theorem reference_eq_blockStep (m : (ℓ : Loc nD τ sig) → Buf (Elt Ideal) ℓ) (c : Dev nD)
    (h : Cert.Pre_finite_logits.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    Cert.ReferenceIdeal.Read.val_main_v39 (F := Ideal) (m ((c : Thread nD τ).loc main_arg0))
      (m ((c : Thread nD τ).loc main_arg1)) (m ((c : Thread nD τ).loc main_arg3)) (m ((c : Thread nD τ).loc main_arg4))
      (m ((c : Thread nD τ).loc main_arg5)) = blockStep m c := by
  obtain ⟨h0, h1, h4⟩ := Cert.Pre_finite_logits.Att.opened _ _ _ _ _ _ h
  funext i
  obtain ⟨p, d, rfl⟩ : ∃ (p : Fin 512) (d : Fin 64), i = ix2 p d := ⟨i 0, i 1, eq_ix2 i⟩
  refine (Cert.ReferenceIdeal.Att.result_ref _ _ _ _ _ p d).trans ?_
  exact (attend_block_eq_row (hid m c) (rela m c) (nei m c) (wt m c) (bias m c) h0 h1 h4 p d).symm

end Cert.KernelIdeal.Att

end
-- ==== Proof.lean ====
/- The claims, assembled: the kernel and the reference run, keep their arguments and settle their semaphores; the ideal
   program is the written one; and on finite states, relations and weights the two leave the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_logits
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments as launched; it has no counter to settle. -/
theorem frame_ref : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From memories that agree on the arguments, where the states, the relations and the weights are finite, the kernel and
    the reference run to the same result. -/
theorem same_result : Cert.algebraic_KernelIdeal_ReferenceIdeal_pre_finite_logits (hKernelIdeal := Cert.KernelIdeal.Gen.facts)
    (hReferenceIdeal := Cert.ReferenceIdeal.Gen.facts) (hPre_finite_logits := Cert.Pre_finite_logits.Gen.facts) := by
  intro m g m' g' hpre hargs
  refine ⟨fun c => Cert.KernelIdeal.Att.blockStep m c, ?_, ?_⟩
  · exact (θ_run Cert.KernelIdeal.defs _ _).mono
      (fun r h c => ⟨(h c).1.trans (Cert.KernelIdeal.Att.final m c), (h c).2⟩) (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨e0, e1, _, e3, e4, e5⟩ := hargs c
    rw [Cert.ReferenceIdeal.Read.val_main_v39_eq, e0, e1, e3, e4, e5]
    exact Cert.KernelIdeal.Att.reference_eq_blockStep m c (hpre c)

/-- Everything claimed of the kernel and its reference. -/
theorem claim : Cert.Claim := ⟨Cert.Kernel.Gen.facts, Cert.KernelIdeal.Gen.facts, Cert.ReferenceIdeal.Gen.facts,
  Cert.Pre_finite_logits.Gen.facts, fun m ρ _ => Cert.Kernel.Gen.frame m ρ, fun m ρ _ => Cert.KernelIdeal.Gen.frame m ρ,
  fun m ρ _ => Cert.KernelIdeal.Gen.frame m ρ, frame_ref, fun m ρ _ => frame_ref m ρ trivial, trivial, same_result⟩

end Cert.Proof

end
